-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_four_nearest_differ [hPre_four_nearest_differ : Cert.Pre_four_nearest_differ.Facts] (m : (ℓ : Loc Cert.KernelIdeal.nD Cert.KernelIdeal.τ Cert.KernelIdeal.sig) → Buf (Elt Ideal) ℓ) : Prop :=
  ∀ c : Dev Cert.KernelIdeal.nD,
    (Cert.Pre_four_nearest_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_four_nearest_differ [hPre_four_nearest_differ : Cert.Pre_four_nearest_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_four_nearest_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_four_nearest_differ [hKernelIdeal : Cert.KernelIdeal.Facts] [hPre_four_nearest_differ : Cert.Pre_four_nearest_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_four_nearest_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_four_nearest_differ [hReferenceIdeal : Cert.ReferenceIdeal.Facts] [hPre_four_nearest_differ : Cert.Pre_four_nearest_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_four_nearest_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_four_nearest_differ [hKernelIdeal : Cert.KernelIdeal.Facts] [hReferenceIdeal : Cert.ReferenceIdeal.Facts] [hPre_four_nearest_differ : Cert.Pre_four_nearest_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_four_nearest_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_four_nearest_differ : Cert.Pre_four_nearest_differ.Facts),
    quiescent_Kernel (hKernel := hKernel)
    ∧ quiescent_KernelIdeal (hKernelIdeal := hKernelIdeal)
    ∧ quiescent_KernelIdeal_pre_four_nearest_differ (hKernelIdeal := hKernelIdeal) (hPre_four_nearest_differ := hPre_four_nearest_differ)
    ∧ quiescent_ReferenceIdeal (hReferenceIdeal := hReferenceIdeal)
    ∧ quiescent_ReferenceIdeal_pre_four_nearest_differ (hReferenceIdeal := hReferenceIdeal) (hPre_four_nearest_differ := hPre_four_nearest_differ)
    ∧ preserves_Kernel_KernelIdeal
    ∧ algebraic_KernelIdeal_ReferenceIdeal_pre_four_nearest_differ (hKernelIdeal := hKernelIdeal) (hReferenceIdeal := hReferenceIdeal) (hPre_four_nearest_differ := hPre_four_nearest_differ)
-- ==== Pre_four_nearest_differ.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S16x4096x1x3 : Shape := ⟨4, ![16, 4096, 1, 3]⟩
abbrev S16x1x1024x3 : Shape := ⟨4, ![16, 1, 1024, 3]⟩
abbrev S16x4096x1024x3 : Shape := ⟨4, ![16, 4096, 1024, 3]⟩
abbrev S_ : Shape := ⟨0, ![]⟩
abbrev S16x4096x1024 : Shape := ⟨3, ![16, 4096, 1024]⟩
abbrev S16x4096x4 : Shape := ⟨3, ![16, 4096, 4]⟩

class Facts : Prop where
  bcast_S16x4096x3_S16x4096x1x3_0_1_3 : S16x4096x3.BroadcastsInDim S16x4096x1x3 (![0, 1, 3] : Fin 3 → Fin S16x4096x1x3.rank)
  bcast_S16x1024x3_S16x1x1024x3_0_2_3 : S16x1024x3.BroadcastsInDim S16x1x1024x3 (![0, 2, 3] : Fin 3 → Fin S16x1x1024x3.rank)
  bcast_S16x4096x1x3_S16x4096x1024x3_0_1_2_3 : S16x4096x1x3.BroadcastsInDim S16x4096x1024x3 (![0, 1, 2, 3] : Fin 4 → Fin S16x4096x1024x3.rank)
  bcast_S16x1x1024x3_S16x4096x1024x3_0_1_2_3 : S16x1x1024x3.BroadcastsInDim S16x4096x1024x3 (![0, 1, 2, 3] : Fin 4 → Fin S16x4096x1024x3.rank)
  reducesTo_S16x4096x1024x3_S16x4096x1024_d3 : S16x4096x1024x3.ReducesTo [3] S16x4096x1024
  h_S_ : 0 < S_.numel
  sliceFits_S16x4096x1024_S16x4096x4 : S16x4096x1024.Slices (fun _ => 0) S16x4096x4
  slices_S16x4096x4_S16x4096x3_0_0_0 : S16x4096x4.Slices ![0, 0, 0] S16x4096x3
  slices_S16x4096x4_S16x4096x3_0_0_1 : S16x4096x4.Slices ![0, 0, 1] S16x4096x3

variable [Facts]

def fn {F : FTy → Type} [FloatOps F] (main_arg0 : FVec F S16x4096x3 .f32) (main_arg1 : FVec F S16x1024x3 .f32) (main_arg2 : FVec F S16x256x4096 .f32) (main_arg3 : FVec F S16x512x1024 .f32) (main_arg4 : FVec F S512x768 .f32) (main_arg5 : FVec F S512 .f32) (main_arg6 : FVec F S512x512 .f32) (main_arg7 : FVec F S512 .f32) (main_arg8 : FVec F S256x512 .f32) (main_arg9 : FVec F S256 .f32) : IVec S16x4096x3 1 :=
  let main_v0 : FVec F S16x4096x1x3 .f32 := broadcastInDim S16x4096x1x3 ![0, 1, 3] bcast_S16x4096x3_S16x4096x1x3_0_1_3 main_arg0
  let main_v1 : FVec F S16x1x1024x3 .f32 := broadcastInDim S16x1x1024x3 ![0, 2, 3] bcast_S16x1024x3_S16x1x1024x3_0_2_3 main_arg1
  let main_v2 : FVec F S16x4096x1024x3 .f32 := broadcastInDim S16x4096x1024x3 ![0, 1, 2, 3] bcast_S16x4096x1x3_S16x4096x1024x3_0_1_2_3 main_v0
  let main_v3 : FVec F S16x4096x1024x3 .f32 := broadcastInDim S16x4096x1024x3 ![0, 1, 2, 3] bcast_S16x1x1024x3_S16x4096x1024x3_0_1_2_3 main_v1
  let main_v4 : FVec F S16x4096x1024x3 .f32 := subf main_v2 main_v3
  let main_v5 : FVec F S16x4096x1024x3 .f32 := mulf main_v4 main_v4
  let main_cst : FVec F S_ .f32 := constant S_ .f32 0x00000000#32
  let main_v6 : FVec F S16x4096x1024 .f32 := (fun x v => Host.reduceAdd x v reducesTo_S16x4096x1024x3_S16x4096x1024_d3 h_S_) main_v5 main_cst
  let main_v7 : FVec F S16x4096x1024 .f32 := Host.negf main_v6
  let main_values : FVec F S16x4096x4 .f32 := (fun x => (Host.topK S16x4096x4 2 (FloatOps.cmpfTotal .gt) x sliceFits_S16x4096x1024_S16x4096x4).1) main_v7
  let main_indices : IVec S16x4096x4 32 := (fun x => (Host.topK S16x4096x4 2 (FloatOps.cmpfTotal .gt) x sliceFits_S16x4096x1024_S16x4096x4).2) main_v7
  let main_v8 : FVec F S16x4096x3 .f32 := (extractStridedSlice S16x4096x3 ![0, 0, 0] · slices_S16x4096x4_S16x4096x3_0_0_0) main_values
  let main_v9 : FVec F S16x4096x3 .f32 := (extractStridedSlice S16x4096x3 ![0, 0, 1] · slices_S16x4096x4_S16x4096x3_0_0_1) main_values
  let main_v10 : IVec S16x4096x3 1 := cmpf .ogt main_v8 main_v9
  main_v10
-- ==== Kernel.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S16x3x4096 : Shape := ⟨3, ![16, 3, 4096]⟩
abbrev S512x1 : Shape := ⟨2, ![512, 1]⟩
abbrev S256x1 : Shape := ⟨2, ![256, 1]⟩
abbrev S1x3x4096 : Shape := ⟨3, ![1, 3, 4096]⟩
abbrev S1x1024x3 : Shape := ⟨3, ![1, 1024, 3]⟩
abbrev S1x256x4096 : Shape := ⟨3, ![1, 256, 4096]⟩
abbrev S1x512x1024 : Shape := ⟨3, ![1, 512, 1024]⟩
abbrev S3x4096 : Shape := ⟨2, ![3, 4096]⟩
abbrev S1024x3 : Shape := ⟨2, ![1024, 3]⟩
abbrev S1x4096 : Shape := ⟨2, ![1, 4096]⟩
abbrev S1024x1 : Shape := ⟨2, ![1024, 1]⟩
abbrev S1024x4096 : Shape := ⟨2, ![1024, 4096]⟩
abbrev S4096 : Shape := ⟨1, ![4096]⟩
abbrev S512x1024 : Shape := ⟨2, ![512, 1024]⟩
abbrev S512x4096 : Shape := ⟨2, ![512, 4096]⟩
abbrev S512x256 : Shape := ⟨2, ![512, 256]⟩
abbrev S256x4096 : Shape := ⟨2, ![256, 4096]⟩

abbrev nBuf : Space → Nat
  | .hbm => 15
  | .vmem => 16
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x256x4096, .f32⟩
  | .hbm, ⟨3, _⟩ => ⟨S16x512x1024, .f32⟩
  | .hbm, ⟨4, _⟩ => ⟨S512x768, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S16x3x4096, .f32⟩
  | .hbm, ⟨11, _⟩ => ⟨S512x1, .f32⟩
  | .hbm, ⟨12, _⟩ => ⟨S512x1, .f32⟩
  | .hbm, ⟨13, _⟩ => ⟨S256x1, .f32⟩
  | .hbm, ⟨14, _⟩ => ⟨S16x256x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x1024x3, .f32⟩
  | .local _ .vmem, ⟨3, _⟩ => ⟨S1x1024x3, .f32⟩
  | .local _ .vmem, ⟨4, _⟩ => ⟨S1x256x4096, .f32⟩
  | .local _ .vmem, ⟨5, _⟩ => ⟨S1x256x4096, .f32⟩
  | .local _ .vmem, ⟨6, _⟩ => ⟨S1x512x1024, .f32⟩
  | .local _ .vmem, ⟨7, _⟩ => ⟨S1x512x1024, .f32⟩
  | .local _ .vmem, ⟨8, _⟩ => ⟨S512x768, .f32⟩
  | .local _ .vmem, ⟨9, _⟩ => ⟨S512x1, .f32⟩
  | .local _ .vmem, ⟨10, _⟩ => ⟨S512x512, .f32⟩
  | .local _ .vmem, ⟨11, _⟩ => ⟨S512x1, .f32⟩
  | .local _ .vmem, ⟨12, _⟩ => ⟨S256x512, .f32⟩
  | .local _ .vmem, ⟨13, _⟩ => ⟨S256x1, .f32⟩
  | .local _ .vmem, ⟨14, _⟩ => ⟨S1x256x4096, .f32⟩
  | .local _ .vmem, ⟨15, _⟩ => ⟨S1x256x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S16x4096x1x3 : Shape := ⟨4, ![16, 4096, 1, 3]⟩
abbrev S16x1x1024x3 : Shape := ⟨4, ![16, 1, 1024, 3]⟩
abbrev S16x4096x1024x3 : Shape := ⟨4, ![16, 4096, 1024, 3]⟩
abbrev S_ : Shape := ⟨0, ![]⟩
abbrev S16x4096x1024 : Shape := ⟨3, ![16, 4096, 1024]⟩
abbrev S16x4096 : Shape := ⟨2, ![16, 4096]⟩
abbrev S16x4096x1 : Shape := ⟨3, ![16, 4096, 1]⟩
abbrev S16x1024x512 : Shape := ⟨3, ![16, 1024, 512]⟩
abbrev S16x4096x3x1 : Shape := ⟨4, ![16, 4096, 3, 1]⟩
abbrev S16x4096x3x512 : Shape := ⟨4, ![16, 4096, 3, 512]⟩
abbrev S16x4096x512 : Shape := ⟨3, ![16, 4096, 512]⟩
abbrev S16x512x4096 : Shape := ⟨3, ![16, 512, 4096]⟩
abbrev S16x768x4096 : Shape := ⟨3, ![16, 768, 4096]⟩
abbrev S1x512x1 : Shape := ⟨3, ![1, 512, 1]⟩
abbrev S16x4096x256 : Shape := ⟨3, ![16, 4096, 256]⟩
abbrev S1x256x1 : Shape := ⟨3, ![1, 256, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x256x4096, .f32⟩
  | .hbm, ⟨3, _⟩ => ⟨S16x512x1024, .f32⟩
  | .hbm, ⟨4, _⟩ => ⟨S512x768, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S16x4096x1x3, .f32⟩
  | .hbm, ⟨11, _⟩ => ⟨S16x1x1024x3, .f32⟩
  | .hbm, ⟨12, _⟩ => ⟨S16x4096x1024x3, .f32⟩
  | .hbm, ⟨13, _⟩ => ⟨S16x4096x1024x3, .f32⟩
  | .hbm, ⟨14, _⟩ => ⟨S16x4096x1024x3, .f32⟩
  | .hbm, ⟨15, _⟩ => ⟨S16x4096x1024x3, .f32⟩
  | .hbm, ⟨16, _⟩ => ⟨S_, .f32⟩
  | .hbm, ⟨17, _⟩ => ⟨S16x4096x1024, .f32⟩
  | .hbm, ⟨18, _⟩ => ⟨S16x4096x1024, .f32⟩
  | .hbm, ⟨19, _⟩ => ⟨S16x4096x3, .f32⟩
  | .hbm, ⟨20, _⟩ => ⟨S16x4096x3, .i32⟩
  | .hbm, ⟨21, _⟩ => ⟨S16x4096x3, .f32⟩
  | .hbm, ⟨22, _⟩ => ⟨S_, .f32⟩
  | .hbm, ⟨23, _⟩ => ⟨S16x4096x3, .f32⟩
  | .hbm, ⟨24, _⟩ => ⟨S16x4096x3, .f32⟩
  | .hbm, ⟨25, _⟩ => ⟨S_, .f32⟩
  | .hbm, ⟨26, _⟩ => ⟨S16x4096x3, .f32⟩
  | .hbm, ⟨27, _⟩ => ⟨S16x4096x3, .f32⟩
  | .hbm, ⟨28, _⟩ => ⟨S_, .f32⟩
  | .hbm, ⟨29, _⟩ => ⟨S16x4096, .f32⟩
  | .hbm, ⟨30, _⟩ => ⟨S16x4096x1, .f32⟩
  | .hbm, ⟨31, _⟩ => ⟨S16x4096x3, .f32⟩
  | .hbm, ⟨32, _⟩ => ⟨S16x4096x3, .f32⟩
  | .hbm, ⟨33, _⟩ => ⟨S16x1024x512, .f32⟩
  | .hbm, ⟨34, _⟩ => ⟨S_, .i32⟩
  | .hbm, ⟨35, _⟩ => ⟨S16x4096x3, .i32⟩
  | .hbm, ⟨36, _⟩ => ⟨S16x4096x3, .i1⟩
  | .hbm, ⟨37, _⟩ => ⟨S_, .i32⟩
  | .hbm, ⟨38, _⟩ => ⟨S16x4096x3, .i32⟩
  | .hbm, ⟨39, _⟩ => ⟨S16x4096x3, .i32⟩
  | .hbm, ⟨40, _⟩ => ⟨S16x4096x3, .i32⟩
  | .hbm, ⟨41, _⟩ => ⟨S16x4096x3x1, .i32⟩
  | .hbm, ⟨42, _⟩ => ⟨S16x4096x3x512, .f32⟩
  | .hbm, ⟨43, _⟩ => ⟨S16x4096x3x1, .f32⟩
  | .hbm, ⟨44, _⟩ => ⟨S16x4096x3x512, .f32⟩
  | .hbm, ⟨45, _⟩ => ⟨S16x4096x3x512, .f32⟩
  | .hbm, ⟨46, _⟩ => ⟨S_, .f32⟩
  | .hbm, ⟨47, _⟩ => ⟨S16x4096x512, .f32⟩
  | .hbm, ⟨48, _⟩ => ⟨S16x512x4096, .f32⟩
  | .hbm, ⟨49, _⟩ => ⟨S16x768x4096, .f32⟩
  | .hbm, ⟨50, _⟩ => ⟨S16x4096x512, .f32⟩
  | .hbm, ⟨51, _⟩ => ⟨S16x512x4096, .f32⟩
  | .hbm, ⟨52, _⟩ => ⟨S1x512x1, .f32⟩
  | .hbm, ⟨53, _⟩ => ⟨S16x512x4096, .f32⟩
  | .hbm, ⟨54, _⟩ => ⟨S16x512x4096, .f32⟩
  | .hbm, ⟨55, _⟩ => ⟨S_, .f32⟩
  | .hbm, ⟨56, _⟩ => ⟨S16x512x4096, .f32⟩
  | .hbm, ⟨57, _⟩ => ⟨S16x512x4096, .f32⟩
  | .hbm, ⟨58, _⟩ => ⟨S16x4096x512, .f32⟩
  | .hbm, ⟨59, _⟩ => ⟨S16x512x4096, .f32⟩
  | .hbm, ⟨60, _⟩ => ⟨S1x512x1, .f32⟩
  | .hbm, ⟨61, _⟩ => ⟨S16x512x4096, .f32⟩
  | .hbm, ⟨62, _⟩ => ⟨S16x512x4096, .f32⟩
  | .hbm, ⟨63, _⟩ => ⟨S_, .f32⟩
  | .hbm, ⟨64, _⟩ => ⟨S16x512x4096, .f32⟩
  | .hbm, ⟨65, _⟩ => ⟨S16x512x4096, .f32⟩
  | .hbm, ⟨66, _⟩ => ⟨S16x4096x256, .f32⟩
  | .hbm, ⟨67, _⟩ => ⟨S16x256x4096, .f32⟩
  | .hbm, ⟨68, _⟩ => ⟨S1x256x1, .f32⟩
  | .hbm, ⟨69, _⟩ => ⟨S16x256x4096, .f32⟩
  | .hbm, ⟨70, _⟩ => ⟨S16x256x4096, .f32⟩
  | .hbm, ⟨71, _⟩ => ⟨S_, .f32⟩
  | .hbm, ⟨72, _⟩ => ⟨S16x256x4096, .f32⟩
  | .hbm, ⟨73, _⟩ => ⟨S16x256x4096, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_values : Ref sig .tc := ⟨.hbm, 19, rfl⟩
abbrev main_indices : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call0_cst : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call1_cst : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call2_cst : Ref sig .tc := ⟨.hbm, 71, rfl⟩
abbrev main_call2_v0 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Select.lean ====
/- Three nearest neighbours among finitely many extended-real distances: the three successive minima that the
   kernel forms by masking, and the sum over all neighbours that its comparison with the third minimum
   leaves, which is the sum over the three positions alone. -/
module

public import Idealize.ShloMosaic.PureOps.Ideal
public import Idealize.ShloMosaic.Lib.IdealHost

@[expose] public section

noncomputable section

namespace Cert.Select

open Idealize.ShloMosaic

/-- `p`, `q` and `r` are the positions of the three smallest values of `a`, in increasing order: they are strictly
    increasing, below `⊤`, and every other position holds a larger value than the third. -/
structure Nearest {n : Nat} (a : Fin n → EReal) (p q r : Fin n) : Prop where
  pq : a p < a q
  qr : a q < a r
  top : a r < ⊤
  rest : ∀ j, j ≠ p → j ≠ q → j ≠ r → a r < a j

/-- A minimum that one position attains and no position undercuts. -/
theorem fold_min_eq {n : Nat} (f : Fin n → EReal) (p : Fin n) (h : ∀ j, f p ≤ f j) :
    Finset.univ.fold min ⊤ f = f p := by
  apply le_antisymm
  · rw [Finset.fold_min_le]
    exact Or.inr ⟨p, Finset.mem_univ _, le_rfl⟩
  · rw [Finset.le_fold_min]
    exact ⟨le_top, fun j _ => h j⟩

variable {n : Nat} {a : Fin n → EReal} {p q r : Fin n}

namespace Nearest

/-- The first and second positions differ. -/
theorem ne_pq (h : Nearest a p q r) : p ≠ q := fun e => absurd h.pq (by rw [e]; exact lt_irrefl _)

/-- The second and third positions differ. -/
theorem ne_qr (h : Nearest a p q r) : q ≠ r := fun e => absurd h.qr (by rw [e]; exact lt_irrefl _)

/-- The first and third positions differ. -/
theorem ne_pr (h : Nearest a p q r) : p ≠ r := fun e => absurd (h.pq.trans h.qr) (by rw [e]; exact lt_irrefl _)

/-- Every position but the first holds at least the second value. -/
theorem second_le (h : Nearest a p q r) (j : Fin n) (hj : j ≠ p) : a q ≤ a j := by
  by_cases hq : j = q
  · rw [hq]
  by_cases hr : j = r
  · rw [hr]; exact h.qr.le
  exact (h.qr.trans (h.rest j hj hq hr)).le

/-- Every position holds at least the first value. -/
theorem first_le (h : Nearest a p q r) (j : Fin n) : a p ≤ a j := by
  by_cases hp : j = p
  · rw [hp]
  exact h.pq.le.trans (h.second_le j hp)

/-- Only the first position holds the first value. -/
theorem eq_first (h : Nearest a p q r) (j : Fin n) : a j = a p ↔ j = p :=
  ⟨fun e => by_contra fun hj => absurd (h.second_le j hj) (not_le.mpr (e ▸ h.pq)), fun e => e ▸ rfl⟩

/-- The values at most the third are those at the three positions. -/
theorem le_third (h : Nearest a p q r) (j : Fin n) : a j ≤ a r ↔ (j = p ∨ j = q ∨ j = r) := by
  constructor
  · intro hj
    by_contra hn
    push Not at hn
    exact absurd (h.rest j hn.1 hn.2.1 hn.2.2) (not_lt.mpr hj)
  · rintro (rfl | rfl | rfl)
    · exact (h.pq.trans h.qr).le
    · exact h.qr.le
    · exact le_rfl

/-- The least value. -/
theorem min_first (h : Nearest a p q r) : Finset.univ.fold min ⊤ a = a p := fold_min_eq a p h.first_le

/-- The least value once the least is masked. -/
theorem min_second (h : Nearest a p q r) :
    Finset.univ.fold min ⊤ (fun j => if a j = a p then ⊤ else a j) = a q := by
  have hq : (fun j => if a j = a p then (⊤ : EReal) else a j) q = a q := by
    simp only [h.eq_first, h.ne_pq.symm, if_false]
  refine (fold_min_eq _ q fun j => (le_of_eq hq).trans ?_).trans hq
  simp only [h.eq_first]
  split
  · exact le_top
  · exact h.second_le j ‹_›

/-- The least value once the two least are masked. -/
theorem min_third (h : Nearest a p q r) :
    Finset.univ.fold min ⊤ (fun j => if (if a j = a p then ⊤ else a j) = a q then ⊤
      else if a j = a p then ⊤ else a j) = a r := by
  have hqt : (⊤ : EReal) ≠ a q := (h.qr.trans h.top).ne'
  have hr : (fun j => if (if a j = a p then (⊤ : EReal) else a j) = a q then (⊤ : EReal)
      else if a j = a p then ⊤ else a j) r = a r := by
    simp only [h.eq_first, h.ne_pr.symm, if_false, h.qr.ne']
  refine (fold_min_eq _ r fun j => (le_of_eq hr).trans ?_).trans hr
  simp only [h.eq_first]
  by_cases hp : j = p
  · simp only [hp, if_true, hqt, if_false]
    exact le_top
  · simp only [hp, if_false]
    split
    · exact le_top
    · rename_i hjq
      by_cases hr' : j = r
      · rw [hr']
      exact (h.rest j hp (fun e => hjq (by rw [e])) hr').le

/-- A sum over all positions of terms that vanish off the three nearest. -/
theorem sum_three (h : Nearest a p q r) (g w : Fin n → EReal) :
    (∑ j, g j * (if a j ≤ a r then w j else 0)) = g p * w p + g q * w q + g r * w r := by
  have e : ∀ j, g j * (if a j ≤ a r then w j else 0)
      = if j ∈ ({p, q, r} : Finset (Fin n)) then g j * w j else 0 := by
    intro j
    simp only [h.le_third, Finset.mem_insert, Finset.mem_singleton]
    split
    · rfl
    · exact mul_zero _
  rw [Finset.sum_congr rfl fun j _ => e j, Finset.sum_ite_mem, Finset.univ_inter,
    Finset.sum_insert (by simp [h.ne_pq, h.ne_pr]), Finset.sum_insert (by simp [h.ne_qr]), Finset.sum_singleton,
    add_assoc]

end Nearest

/-! ## The weights -/

/-- The reciprocal of a positive extended real below `⊤` is a positive real. -/
theorem one_div_pos {x : EReal} (h0 : 0 < x) (ht : x < ⊤) : ∃ y : ℝ, 0 < y ∧ Ideal.div 1 x = (y : EReal) := by
  lift x to ℝ using ⟨ht.ne, (bot_le.trans_lt h0).ne'⟩
  have h : 0 < x := by exact_mod_cast h0
  refine ⟨1 / x, by positivity, ?_⟩
  rw [Ideal.div_coe h.ne', one_mul]

/-- Normalizing after the weighted sum is normalizing the weights: with positive real weights whose normalizer is
    their sum, the three products may be scaled one by one. -/
theorem normalize (g0 g1 g2 : EReal) (w0 w1 w2 : ℝ) (h0 : 0 < w0) (h1 : 0 < w1) (h2 : 0 < w2) :
    (g0 * w0 + g1 * w1 + g2 * w2) * Ideal.div 1 ((w0 : EReal) + w1 + w2)
      = g0 * Ideal.div w0 ((w0 : EReal) + w1 + w2) + g1 * Ideal.div w1 ((w0 : EReal) + w1 + w2)
        + g2 * Ideal.div w2 ((w0 : EReal) + w1 + w2) := by
  have hs : 0 < w0 + w1 + w2 := by positivity
  have es : (w0 : EReal) + w1 + w2 = ((w0 + w1 + w2 : ℝ) : EReal) := by push_cast; rfl
  have hne : (w0 : EReal) + w1 + w2 ≠ 0 := by rw [es]; exact_mod_cast hs.ne'
  obtain ⟨y, hy, ey⟩ := one_div_pos (x := (w0 : EReal) + w1 + w2) (by rw [es]; exact_mod_cast hs)
    (by rw [es]; exact EReal.coe_lt_top _)
  rw [← Ideal.mul_one_div (x := (w0 : EReal)) hne, ← Ideal.mul_one_div (x := (w1 : EReal)) hne,
    ← Ideal.mul_one_div (x := (w2 : EReal)) hne, ey,
    EReal.right_distrib_of_nonneg_of_ne_top (by exact_mod_cast hy.le) (EReal.coe_ne_top _),
    EReal.right_distrib_of_nonneg_of_ne_top (by exact_mod_cast hy.le) (EReal.coe_ne_top _),
    mul_assoc, mul_assoc, mul_assoc]

end Cert.Select

end
-- ==== Proof.Answer.lean ====
/- The layer's result at one output channel of one point, as plain arithmetic on extended reals: the squared distances
   to the known points, the reciprocals of the three nearest, the interpolated features with normalized
   weights, and the three rectified linear layers. -/
module

public import proofs.«01_k».proof.Proof.Select
public import Idealize.ShloMosaic.Lib.Pointwise

@[expose] public section

noncomputable section

namespace Cert.Answer

open Idealize.ShloMosaic Cert.Select

/-- The squared distance of two points of space. -/
def dist (u k : Fin 3 → EReal) : EReal :=
  (u 0 - k 0) * (u 0 - k 0) + (u 1 - k 1) * (u 1 - k 1) + (u 2 - k 2) * (u 2 - k 2)

/-- The constant that the reciprocals add to a distance. -/
def eps : EReal := Ideal.ofBits .f32 0x322BCC77#32

/-- The constant 1e-08 as both programs write it. -/
theorem ofBits_eps : Ideal.ofBits .f32 0x322BCC77#32 = eps := rfl

/-- The reciprocal of a distance. -/
def recip (d : EReal) : EReal := Ideal.div 1 (d + eps)

/-- The weight of the neighbour at distance `d` among those at distances `x`, `y` and `z`. -/
def weight (d x y z : EReal) : EReal := Ideal.div (recip d) (recip x + recip y + recip z)

/-- One feature interpolated over the neighbours at positions `p`, `q` and `r`. -/
def mix {n : Nat} (g a : Fin n → EReal) (p q r : Fin n) : EReal :=
  g p * weight (a p) (a p) (a q) (a r) + g q * weight (a q) (a p) (a q) (a r) + g r * weight (a r) (a p) (a q) (a r)

/-- One output of a rectified linear layer. -/
def layer {K : Nat} (w x : Fin K → EReal) (b : EReal) : EReal := max (∑ i, w i * x i + b) 0

/-- One output of the first layer, whose input is the 512 interpolated features followed by the point's own 256. -/
def first (w : Fin 768 → EReal) (f : Fin 512 → EReal) (g : Fin 256 → EReal) (b : EReal) : EReal :=
  max (∑ i : Fin 512, w ⟨i, by omega⟩ * f i + ∑ i : Fin 256, w ⟨512 + i, by omega⟩ * g i + b) 0

/-- The three layers, at one output channel. -/
def stack (W1 : Fin 512 → Fin 768 → EReal) (b1 : Fin 512 → EReal) (W2 : Fin 512 → Fin 512 → EReal) (b2 : Fin 512 → EReal)
    (w3 : Fin 512 → EReal) (b3 : EReal) (f : Fin 512 → EReal) (g : Fin 256 → EReal) : EReal :=
  layer w3 (fun y => layer (W2 y) (fun x => first (W1 x) f g (b1 x)) (b2 y)) b3

/-- A layer with each product's factors exchanged. -/
theorem layer_flip {n : Nat} (w x : Fin n → EReal) (b : EReal) : layer w x b = max (∑ i, x i * w i + b) 0 := by
  simp only [layer, mul_comm]

/-- The first layer with each product's factors exchanged. -/
theorem first_flip (w : Fin 768 → EReal) (f : Fin 512 → EReal) (g : Fin 256 → EReal) (b : EReal) :
    first w f g b = max (∑ i : Fin 512, f i * w ⟨i, by omega⟩ + ∑ i : Fin 256, g i * w ⟨512 + i, by omega⟩ + b) 0 := by
  simp only [first, mul_comm]

/-- The squared distances from point `n` of batch `b` to the batch's known points. -/
def gap (A0 : (⟨3, ![16, 4096, 3]⟩ : Shape).Idx → EReal) (A1 : (⟨3, ![16, 1024, 3]⟩ : Shape).Idx → EReal) (b : Fin 16)
    (n : Fin 4096) (i : Fin 1024) : EReal :=
  dist (fun d => A0 (ix3 b n d)) (fun d => A1 (ix3 b i d))

/-- The result at output channel `o` of point `n` of batch `b`, the positions of the three nearest known points given. -/
def answer (A0 : (⟨3, ![16, 4096, 3]⟩ : Shape).Idx → EReal) (A1 : (⟨3, ![16, 1024, 3]⟩ : Shape).Idx → EReal)
    (A2 : (⟨3, ![16, 256, 4096]⟩ : Shape).Idx → EReal) (A3 : (⟨3, ![16, 512, 1024]⟩ : Shape).Idx → EReal)
    (A4 : (⟨2, ![512, 768]⟩ : Shape).Idx → EReal) (A5 : (⟨1, ![512]⟩ : Shape).Idx → EReal)
    (A6 : (⟨2, ![512, 512]⟩ : Shape).Idx → EReal) (A7 : (⟨1, ![512]⟩ : Shape).Idx → EReal)
    (A8 : (⟨2, ![256, 512]⟩ : Shape).Idx → EReal) (A9 : (⟨1, ![256]⟩ : Shape).Idx → EReal)
    (p q r : Fin 1024) (b : Fin 16) (o : Fin 256) (n : Fin 4096) : EReal :=
  stack (fun y i => A4 (ix2 y i)) (fun y => A5 (ix1 y)) (fun y i => A6 (ix2 y i)) (fun y => A7 (ix1 y))
    (fun i => A8 (ix2 o i)) (A9 (ix1 o)) (fun i => mix (fun j => A3 (ix3 b i j)) (gap A0 A1 b n) p q r)
    (fun i => A2 (ix3 b i n))

/-- A square is not negative. -/
theorem zero_le_square (x : EReal) : 0 ≤ x * x := by
  rcases le_total 0 x with h | h
  · exact mul_nonneg h h
  · have h' : 0 ≤ -x := EReal.neg_nonneg.mpr h
    have := mul_nonneg h' h'
    rwa [neg_mul_neg] at this

/-- A squared distance is not negative. -/
theorem zero_le_dist (u k : Fin 3 → EReal) : 0 ≤ dist u k :=
  add_nonneg (add_nonneg (zero_le_square _) (zero_le_square _)) (zero_le_square _)

/-- The constant is a positive real. -/
theorem eps_pos : ∃ e : ℝ, 0 < e ∧ eps = (e : EReal) := by
  refine ⟨(2 ^ 23 + 2870391 : ℕ) * (2 : ℝ) ^ (-50 : Int), by positivity, ?_⟩
  unfold eps
  simp [Ideal.ofBits, Ideal.ieee, -EReal.coe_mul]

/-- The pattern from which the kernel's minima start is the greatest extended real. -/
theorem ofBits_top : Ideal.ofBits .f32 0x7F800000#32 = ⊤ := by
  simp [Ideal.ofBits, Ideal.ieee, -EReal.coe_mul]

/-- The reciprocal of a distance below `⊤` is a positive real. -/
theorem recip_pos {d : EReal} (h0 : 0 ≤ d) (ht : d < ⊤) : ∃ y : ℝ, 0 < y ∧ recip d = (y : EReal) := by
  obtain ⟨e, he, ee⟩ := eps_pos
  refine one_div_pos ?_ ?_
  · rw [ee]
    exact (EReal.coe_pos.mpr he).trans_le (le_add_of_nonneg_left h0)
  · rw [ee]
    exact EReal.add_lt_top ht.ne (EReal.coe_ne_top _)

/-- What the kernel forms — the reciprocals of all distances at most the third, summed against the features and then
    divided by the three reciprocals' sum — is the interpolated feature. -/
theorem mix_of_masked {n : Nat} (g a : Fin n → EReal) {p q r : Fin n} (h : Nearest a p q r) (h0 : ∀ j, 0 ≤ a j) :
    (∑ j, g j * (if a j ≤ a r then recip (a j) else 0)) * Ideal.div 1 (recip (a p) + recip (a q) + recip (a r))
      = mix g a p q r := by
  obtain ⟨x, hx, ex⟩ := recip_pos (h0 p) ((h.pq.trans h.qr).trans h.top)
  obtain ⟨y, hy, ey⟩ := recip_pos (h0 q) (h.qr.trans h.top)
  obtain ⟨z, hz, ez⟩ := recip_pos (h0 r) h.top
  rw [h.sum_three g fun j => recip (a j)]
  unfold mix weight
  rw [ex, ey, ez]
  exact normalize _ _ _ x y z hx hy hz

end Cert.Answer

end
-- ==== Proof.Block.lean ====
/- What the kernel's body computes from one block of each operand, read at one output channel of one point: the
   three-layer stack over the features interpolated from the three nearest known points. -/
module

public import proofs.«01_k».proof.Proof.Gen.KernelIdeal.Skeleton
public import proofs.«01_k».proof.Proof.Answer
public import Idealize.ShloMosaic.Lib.Pointwise

@[expose] public section

set_option maxRecDepth 16384

noncomputable section

namespace Cert.Block

open Idealize.ShloMosaic Cert.KernelIdeal Cert.KernelIdeal.Gen Cert.Select Cert.Answer

variable (v0 : Vec Ideal S1x3x4096 .f32) (v2 : Vec Ideal S1x1024x3 .f32)

/-- The distances from the block's point `n` to the block's known points. -/
def dists (n : Fin 4096) (i : Fin 1024) : EReal := dist (fun d => v0 (ix3 0 d n)) (fun d => v2 (ix3 0 i d))

/-- The table of distances. -/
theorem pay2_apply (i : Fin 1024) (n : Fin 4096) : k0_pay2 v0 v2 (ix2 i n) = dists v0 v2 n i := by
  pointwise [k0_pay2]
  rfl

variable {v0 v2} {n : Fin 4096} {p q r : Fin 1024}

/-- The first minimum is the nearest distance. -/
theorem pay3_apply (h : Nearest (dists v0 v2 n) p q r) (u : Fin 1) : k0_pay3 v0 v2 (ix2 u n) = dists v0 v2 n p := by
  pointwise [k0_pay3]
  simp only [pay2_apply, ofBits_top]
  exact h.min_first

/-- The table with the first minimum masked. -/
theorem pay4_apply (h : Nearest (dists v0 v2 n) p q r) (i : Fin 1024) :
    k0_pay4 v0 v2 (ix2 i n) = if dists v0 v2 n i = dists v0 v2 n p then ⊤ else dists v0 v2 n i := by
  have e := pay3_apply h 0
  have e2 := pay2_apply v0 v2 i n
  unfold k0_pay4
  generalize k0_pay3 v0 v2 = x3 at e ⊢
  generalize k0_pay2 v0 v2 = x2 at e2 ⊢
  pointwise
  rw [e, e2, ofBits_top]

/-- The second minimum is the second nearest distance. -/
theorem pay5_apply (h : Nearest (dists v0 v2 n) p q r) (u : Fin 1) : k0_pay5 v0 v2 (ix2 u n) = dists v0 v2 n q := by
  have e := fun i => pay4_apply h i
  unfold k0_pay5
  generalize k0_pay4 v0 v2 = x4 at e ⊢
  pointwise
  simp only [e, ofBits_top]
  exact h.min_second

/-- The third minimum is the third nearest distance. -/
theorem pay6_apply (h : Nearest (dists v0 v2 n) p q r) (u : Fin 1) : k0_pay6 v0 v2 (ix2 u n) = dists v0 v2 n r := by
  have e4 := fun i => pay4_apply h i
  have e5 := pay5_apply h 0
  unfold k0_pay6
  generalize k0_pay4 v0 v2 = x4 at e4 ⊢
  generalize k0_pay5 v0 v2 = x5 at e5 ⊢
  pointwise
  simp only [e4, e5, ofBits_top]
  exact h.min_third

/-- A row of reciprocals. -/
theorem recip_row (x : FVec Ideal S1x4096 .f32) (n : Fin 4096) :
    (divf (broadcast S1x4096 (Scalar.ofBits .f32 0x3F800000#32))
      (addf x (broadcast S1x4096 (Scalar.ofBits .f32 0x322BCC77#32))) : FVec Ideal S1x4096 .f32) (ix2 0 n)
      = recip (x (ix2 0 n)) := by
  pointwise
  rw [ofBits_eps]
  unfold recip
  rfl

/-- A row of distances with the constant added. -/
theorem shifted_row (x : FVec Ideal S1x4096 .f32) (n : Fin 4096) :
    (addf x (broadcast S1x4096 (Scalar.ofBits .f32 0x322BCC77#32)) : FVec Ideal S1x4096 .f32) (ix2 0 n)
      = x (ix2 0 n) + eps := by
  pointwise
  rw [ofBits_eps]

/-- The reciprocal of the nearest distance. -/
theorem pay7_apply (h : Nearest (dists v0 v2 n) p q r) :
    k0_pay7 v0 v2 (ix2 0 n) = recip (dists v0 v2 n p) := by
  rw [← pay3_apply h 0]
  unfold k0_pay7
  generalize k0_pay3 v0 v2 = x
  exact recip_row x n

/-- The second nearest distance, with the constant added. -/
theorem pay8_apply (h : Nearest (dists v0 v2 n) p q r) :
    k0_pay8 v0 v2 (ix2 0 n) = dists v0 v2 n q + eps := by
  rw [← pay5_apply h 0]
  unfold k0_pay8
  generalize k0_pay5 v0 v2 = x
  exact shifted_row x n

/-- The first layer before its rectification, over any table of distances, third minimum, first reciprocal and second
    shifted distance. -/
theorem pay9_read (x2 : FVec Ideal S1024x4096 .f32) (x6 x7 x8 : FVec Ideal S1x4096 .f32) (v58 : Vec Ideal S1x512x1024 .f32)
    (v67 : Vec Ideal S512x768 .f32) (v74 : Vec Ideal S1x256x4096 .f32) (v79 : Vec Ideal S512x1 .f32) (o : Fin 512)
    (n : Fin 4096) :
    k0_pay9 x2 x6 x7 x8 v58 v67 v74 v79 (ix2 o n)
      = ∑ i : Fin 512, v67 (ix2 o ⟨i, by omega⟩) * ((∑ j : Fin 1024, v58 (ix3 0 i j)
            * (if x2 (ix2 j n) ≤ x6 (ix2 0 n) then Ideal.div 1 (x2 (ix2 j n) + eps) else 0))
          * Ideal.div 1 (x7 (ix2 0 n) + Ideal.div 1 (x8 (ix2 0 n)) + Ideal.div 1 (x6 (ix2 0 n) + eps)))
        + ∑ i : Fin 256, v67 (ix2 o ⟨512 + i, by omega⟩) * v74 (ix3 0 i n) + v79 (ix2 o 0) := by
  pointwise [k0_pay9]
  simp only [ofBits_eps]

variable (v0 v2) in
/-- The first layer before its rectification, where the three nearest known points are given. -/
theorem pay9_apply (v58 : Vec Ideal S1x512x1024 .f32) (v67 : Vec Ideal S512x768 .f32) (v74 : Vec Ideal S1x256x4096 .f32)
    (v79 : Vec Ideal S512x1 .f32) (h : Nearest (dists v0 v2 n) p q r) (o : Fin 512) :
    k0_pay9 (k0_pay2 v0 v2) (k0_pay6 v0 v2) (k0_pay7 v0 v2) (k0_pay8 v0 v2) v58 v67 v74 v79 (ix2 o n)
      = ∑ i : Fin 512, v67 (ix2 o ⟨i, by omega⟩) * mix (fun j => v58 (ix3 0 i j)) (dists v0 v2 n) p q r
        + ∑ i : Fin 256, v67 (ix2 o ⟨512 + i, by omega⟩) * v74 (ix3 0 i n) + v79 (ix2 o 0) := by
  have e : ∀ i : Fin 512, mix (fun j => v58 (ix3 0 i j)) (dists v0 v2 n) p q r = _ := fun i =>
    (mix_of_masked (fun j => v58 (ix3 0 i j)) (dists v0 v2 n) h fun j => zero_le_dist _ _).symm
  rw [pay9_read]
  simp only [pay2_apply, pay6_apply h 0, pay7_apply h, pay8_apply h, e, recip]

/-- The last two layers over the first layer's output. -/
theorem pay1_apply (v82 : FVec Ideal S512x4096 .f32) (v85 : Vec Ideal S512x512 .f32) (v89 : Vec Ideal S512x1 .f32)
    (v95 : Vec Ideal S256x512 .f32) (v99 : Vec Ideal S256x1 .f32) (u : Fin 1) (o : Fin 256) (n : Fin 4096) :
    k0_pay1 v82 (Scalar.ofBits .f32 0x00000000#32) v85 v89 v95 v99 (ix3 u o n)
      = layer (fun y => v95 (ix2 o y)) (fun y => layer (fun x => v85 (ix2 y x)) (fun x => max (v82 (ix2 x n)) 0)
          (v89 (ix2 y 0))) (v99 (ix2 o 0)) := by
  pointwise [k0_pay1]
  rfl

end Cert.Block

end
-- ==== Proof.Array.lean ====
/- What the result array holds after the kernel: each grid point writes its batch's block, the sixteen blocks fill the
   array, and a block's reads are reads of the arguments. -/
module

public import proofs.«01_k».proof.Proof.Gen.KernelIdeal.Value
public import proofs.«01_k».proof.Proof.Block
public import Idealize.ShloMosaic.Lib.Pipeline.ValueKit
public import Idealize.ShloMosaic.Lib.Claim

@[expose] public section

set_option maxRecDepth 16384

noncomputable section

namespace Cert.Array

open Idealize.ShloMosaic Idealize.ShloMosaic.TcCoe Cert.KernelIdeal Cert.KernelIdeal.Gen Cert.Select Cert.Answer Cert.Block
open Idealize.ShloMosaic.Pipeline (Dat)

variable (m : (ℓ : Loc nD τ sig) → Buf (Elt Ideal) ℓ) (c : Dev nD)

/-- The batch that grid point `t` works on. -/
def batch (t : Fin cfg0.N) : Fin 16 := ⟨t.val, by have := t.isLt; have e : cfg0.N = 16 := N_0; omega⟩

/-- Where each window's block sits at a grid point. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val, 0, 0] :=
  (by decide +kernel : ∀ t : Fin grid0.N, win0_0.index t = ![t.val, 0, 0] ∧ win0_1.index t = ![t.val, 0, 0]
    ∧ win0_2.index t = ![t.val, 0, 0] ∧ win0_3.index t = ![t.val, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val, 0, 0])

/-- What a grid point reads of the transposed unknown points. -/
theorem read0 (t : Fin cfg0.N) (d : Fin 3) (n : Fin 4096) :
    iblk m c 0 t (ix3 0 d n) = m ((c : Thread nD τ).loc main_arg0) (ix3 (batch t) n d) := by
  have h : iblk m c 0 t (ix3 0 d n) = Gen.V m c main_call0_v0 (ix3 (batch t) d n) := by
    blk_ext! [iblk, idx t, batch]
  rw [h]
  entry_read
  change transpose S16x3x4096 [0, 2, 1] (m ((c : Thread nD τ).loc main_arg0))
    transposes_S16x4096x3_S16x3x4096_0_2_1 (ix3 (batch t) d n) = _
  pointwise

/-- What a grid point reads of the known points. -/
theorem read1 (t : Fin cfg0.N) (i : Fin 1024) (d : Fin 3) :
    iblk m c 1 t (ix3 0 i d) = m ((c : Thread nD τ).loc main_arg1) (ix3 (batch t) i d) := by
  blk_ext! [iblk, V, idx t, batch]

/-- What a grid point reads of the unknown points' own features. -/
theorem read2 (t : Fin cfg0.N) (i : Fin 256) (n : Fin 4096) :
    iblk m c 2 t (ix3 0 i n) = m ((c : Thread nD τ).loc main_arg2) (ix3 (batch t) i n) := by
  blk_ext! [iblk, V, idx t, batch]

/-- What a grid point reads of the known points' features. -/
theorem read3 (t : Fin cfg0.N) (i : Fin 512) (j : Fin 1024) :
    iblk m c 3 t (ix3 0 i j) = m ((c : Thread nD τ).loc main_arg3) (ix3 (batch t) i j) := by
  blk_ext! [iblk, V, idx t, batch]

/-- What a grid point reads of the first layer's weights. -/
theorem read4 (t : Fin cfg0.N) (i : Fin 512) (j : Fin 768) :
    iblk m c 4 t (ix2 i j) = m ((c : Thread nD τ).loc main_arg4) (ix2 i j) := by
  blk_ext! [iblk, V, idx t]

/-- What a grid point reads of the first layer's bias, a column. -/
theorem read5 (t : Fin cfg0.N) (i : Fin 512) :
    iblk m c 5 t (ix2 i 0) = m ((c : Thread nD τ).loc main_arg5) (ix1 i) := by
  blk_ext! [iblk, V, idx t]

/-- What a grid point reads of the second layer's weights. -/
theorem read6 (t : Fin cfg0.N) (i : Fin 512) (j : Fin 512) :
    iblk m c 6 t (ix2 i j) = m ((c : Thread nD τ).loc main_arg6) (ix2 i j) := by
  blk_ext! [iblk, V, idx t]

/-- What a grid point reads of the second layer's bias, a column. -/
theorem read7 (t : Fin cfg0.N) (i : Fin 512) :
    iblk m c 7 t (ix2 i 0) = m ((c : Thread nD τ).loc main_arg7) (ix1 i) := by
  blk_ext! [iblk, V, idx t]

/-- What a grid point reads of the third layer's weights. -/
theorem read8 (t : Fin cfg0.N) (i : Fin 256) (j : Fin 512) :
    iblk m c 8 t (ix2 i j) = m ((c : Thread nD τ).loc main_arg8) (ix2 i j) := by
  blk_ext! [iblk, V, idx t]

/-- What a grid point reads of the third layer's bias, a column. -/
theorem read9 (t : Fin cfg0.N) (i : Fin 256) :
    iblk m c 9 t (ix2 i 0) = m ((c : Thread nD τ).loc main_arg9) (ix1 i) := by
  blk_ext! [iblk, V, idx t]

/-- The distances of a block are those of its batch. -/
theorem dists_eq (t : Fin cfg0.N) (n : Fin 4096) :
    dists (iblk m c 0 t) (iblk m c 1 t) n
      = gap (m ((c : Thread nD τ).loc main_arg0)) (m ((c : Thread nD τ).loc main_arg1)) (batch t) n := by
  funext i
  unfold dists gap
  simp only [read0, read1]

/-- One block of the result, given the three nearest known points of its column. -/
theorem block_value (t : Fin cfg0.N) (u : Fin 1) (o : Fin 256) (n : Fin 4096) {p q r : Fin 1024}
    (h : Nearest (gap (m ((c : Thread nD τ).loc main_arg0)) (m ((c : Thread nD τ).loc main_arg1)) (batch t) n) p q r) :
    k0_pay1 (k0_pay9 (k0_pay2 (iblk m c 0 t) (iblk m c 1 t)) (k0_pay6 (iblk m c 0 t) (iblk m c 1 t))
        (k0_pay7 (iblk m c 0 t) (iblk m c 1 t)) (k0_pay8 (iblk m c 0 t) (iblk m c 1 t)) (iblk m c 3 t) (iblk m c 4 t)
        (iblk m c 2 t) (iblk m c 5 t)) (Scalar.ofBits .f32 0x00000000#32) (iblk m c 6 t) (iblk m c 7 t) (iblk m c 8 t)
        (iblk m c 9 t) (ix3 u o n)
      = answer (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) p q r (batch t) o n := by
  rw [pay1_apply]
  have h' : Nearest (dists (iblk m c 0 t) (iblk m c 1 t) n) p q r := by rw [dists_eq]; exact h
  simp only [pay9_apply _ _ _ _ _ _ h', dists_eq, read2, read3, read4, read5, read6, read7, read8, read9]
  rfl

/-- The result array of the kernel. -/
def whole (P Q R : Fin 16 → Fin 4096 → Fin 1024) : S16x256x4096.Idx → EReal := fun i =>
  answer (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
    (P (i 0) (i 2)) (Q (i 0) (i 2)) (R (i 0) (i 2)) (i 0) (i 1) (i 2)

/-- After all grid points the result array holds the answer at every index. -/
theorem array_eq (P Q R : Fin 16 → Fin 4096 → Fin 1024)
    (h : ∀ b n, Nearest (gap (m ((c : Thread nD τ).loc main_arg0)) (m ((c : Thread nD τ).loc main_arg1)) b n)
      (P b n) (Q b n) (R b n)) :
    (dats m 0 c).arrAt 10 cfg0.N = whole m c P Q R := by
  refine (dats m 0 c).arrAt_eq_of_covers 10 _ (by decide +kernel) fun t hf y => ?_
  blk_simp
  rw [after0_10]
  frame_out
  obtain ⟨u, o, n, rfl⟩ : ∃ u o n, y = ix3 u o n := ⟨y 0, y 1, y 2, eq_ix3 y⟩
  have e : (((cfg0.win 10).blk t).view.emb (ix3 u o n)) = ix3 (batch t) o n := by
    blk_ext! [idx t, batch]
  refine (block_value m c t u o n (h (batch t) n)).trans ?_
  exact (congrArg (whole m c P Q R) e).symm

end Cert.Array

end
-- ==== Proof.TopK.lean ====
/- The positions a descending selection of the greatest entries reports, and what they are when the entries are negated
   distances whose four greatest differ. -/
module

public import proofs.«01_k».proof.Proof.Answer
public import Idealize.ShloMosaic.Lib.SortFacts
public import Idealize.ShloMosaic.Lib.StableHlo

@[expose] public section

set_option maxRecDepth 16384

noncomputable section

namespace Cert.TopK

open Idealize.ShloMosaic Cert.Select Cert.Answer

/-- The position of the `k`-th greatest entry of a row. -/
def rank {N : Nat} (x : Fin N → EReal) (k : Fin N) : Fin N :=
  sortedFrom (fun k k' => FloatOps.cmpfTotal (F := Ideal) (φ := .f32) .gt (x k) (x k') == 1#1) k

/-- The comparison of a descending selection is the order of the extended reals. -/
theorem gt_eq (a b : EReal) :
    (FloatOps.cmpfTotal (F := Ideal) (φ := .f32) .gt a b == 1#1) = decide (b < a) := by
  change (BitVec.ofBool (decide (b < a)) == 1#1) = _
  by_cases h : b < a <;> simp [h]

/-- A later position of the selection holds no greater entry. -/
theorem rank_le {N : Nat} (x : Fin N → EReal) {i j : Fin N} (h : i < j) : x (rank x j) ≤ x (rank x i) := by
  have e := sortedFrom_noInversion (fun k k' => decide (x k' < x k))
    (fun k k' => FloatOps.cmpfTotal (F := Ideal) (φ := .f32) .gt (x k) (x k') == 1#1)
    (fun a b hab => by rw [gt_eq] at hab; simp only [decide_eq_true_eq] at hab; simp [hab.le])
    (fun a b hab => by rw [gt_eq]; exact hab)
    (fun a b d hab hbd => by
      simp only [decide_eq_false_iff_not, not_lt] at *
      exact hab.trans hbd) i j h
  simpa [rank] using e

/-- Where the four greatest of the negated entries differ, the first three positions are the three least entries and
    nothing else comes near them. -/
theorem nearest_of_rank (a : Fin 1024 → EReal)
    (h : ∀ k : Fin 3, -a (rank (fun i => -a i) ⟨k + 1, by omega⟩) < -a (rank (fun i => -a i) ⟨k, by omega⟩)) :
    Nearest a (rank (fun i => -a i) 0) (rank (fun i => -a i) 1) (rank (fun i => -a i) 2) := by
  have h0 := EReal.neg_lt_neg_iff.mp (h 0)
  have h1 := EReal.neg_lt_neg_iff.mp (h 1)
  have h2 := EReal.neg_lt_neg_iff.mp (h 2)
  refine ⟨h0, h1, lt_of_lt_of_le h2 le_top, fun j j0 j1 j2 => ?_⟩
  obtain ⟨k, rfl⟩ := sortedFrom_surjective
    (fun k k' => FloatOps.cmpfTotal (F := Ideal) (φ := .f32) .gt (-a k) (-a k') == 1#1) j
  change a (rank (fun i => -a i) 2) < a (rank (fun i => -a i) k)
  have k0 : k ≠ 0 := fun e => j0 (by subst e; rfl)
  have k1 : k ≠ 1 := fun e => j1 (by subst e; rfl)
  have k2 : k ≠ 2 := fun e => j2 (by subst e; rfl)
  have hk : (3 : Fin 1024) ≤ k := by
    rw [Fin.le_def]
    have := Fin.val_ne_of_ne k0
    have := Fin.val_ne_of_ne k1
    have := Fin.val_ne_of_ne k2
    change 3 ≤ k.val
    simp at *
    omega
  refine lt_of_lt_of_le h2 ?_
  rcases hk.eq_or_lt with e | l
  · exact le_of_eq (by rw [← e]; rfl)
  · exact EReal.neg_le_neg_iff.mp (rank_le (fun i => -a i) l)

/-- Moving along the last axis changes the last coordinate. -/
theorem along_last {A B C : Nat} (b : Fin A) (n : Fin B) (k k' : Fin C) (h : 2 < 3) :
    ((ix3 b n k : (⟨3, ![A, B, C]⟩ : Shape).Idx).along ⟨2, h⟩ k') = ix3 b n k' := by
  funext d
  fin_cases d <;> rfl

section

variable {s t : Shape} {d : Nat} (hd : d < s.rank) (gt : EReal → EReal → BitVec 1) (x : s.Idx → EReal)
  (h : s.Slices (fun _ => 0) t) (j : t.Idx) (J : s.Idx) (hJ : ∀ a, (J a).val = (j (a.cast h.1.symm)).val)

include hJ

/-- A selection's entry, read through the sort of the whole fiber. -/
theorem topK_entry : (Host.topK t d gt x h).1 j
    = x (J.along ⟨d, hd⟩ (sortedFrom (fun k k' => gt (x (J.along ⟨d, hd⟩ k)) (x (J.along ⟨d, hd⟩ k')) == 1#1)
        (J ⟨d, hd⟩))) := by
  have e : J = fun a => ⟨0 + (j (a.cast h.1.symm)).val,
      Nat.lt_of_lt_of_le (Nat.add_lt_add_left (j _).isLt _) (h.2 a)⟩ :=
    funext fun a => Fin.ext (by rw [hJ]; exact (Nat.zero_add _).symm)
  subst e
  unfold Host.topK extractStridedSlice Host.sort2
  simp only [hd, dite_true]

/-- A selection's position, read through the sort of the whole fiber. -/
theorem topK_position : (Host.topK t d gt x h).2 j
    = iotaInDim s 32 ⟨d, hd⟩ (J.along ⟨d, hd⟩ (sortedFrom
        (fun k k' => gt (x (J.along ⟨d, hd⟩ k)) (x (J.along ⟨d, hd⟩ k')) == 1#1) (J ⟨d, hd⟩))) := by
  have e : J = fun a => ⟨0 + (j (a.cast h.1.symm)).val,
      Nat.lt_of_lt_of_le (Nat.add_lt_add_left (j _).isLt _) (h.2 a)⟩ :=
    funext fun a => Fin.ext (by rw [hJ]; exact (Nat.zero_add _).symm)
  subst e
  unfold Host.topK extractStridedSlice Host.sort2
  simp only [hd, dite_true]

end

section

variable {A B C K : Nat} (hK : K ≤ C) (x : (⟨3, ![A, B, C]⟩ : Shape).Idx → EReal)
  (h : (⟨3, ![A, B, C]⟩ : Shape).Slices (fun _ => 0) ⟨3, ![A, B, K]⟩) (b : Fin A) (n : Fin B) (k : Fin K)

/-- An index of the selection, read as an index of the whole row, has the same coordinates. -/
theorem same_coordinates (a : Fin 3) :
    ((ix3 b n (k.castLE hK) : (⟨3, ![A, B, C]⟩ : Shape).Idx) a).val
      = ((ix3 b n k : (⟨3, ![A, B, K]⟩ : Shape).Idx) (a.cast h.1.symm)).val := by
  fin_cases a <;> rfl

/-- The entries a selection along the last axis reports. -/
theorem topK_fst :
    (Host.topK ⟨3, ![A, B, K]⟩ 2 (FloatOps.cmpfTotal (F := Ideal) (φ := .f32) .gt) x h).1 (ix3 b n k)
      = x (ix3 b n (rank (fun i => x (ix3 b n i)) (k.castLE hK))) := by
  rw [topK_entry (by decide : 2 < 3) _ x h _ (ix3 b n (k.castLE hK)) (same_coordinates hK h b n k)]
  exact congrArg (fun f : Fin C → EReal => f (rank f (k.castLE hK)))
    (funext fun i => congrArg x (along_last b n (k.castLE hK) i (by decide : 2 < 3)))

/-- The positions a selection along the last axis reports, as words. -/
theorem topK_snd :
    (Host.topK ⟨3, ![A, B, K]⟩ 2 (FloatOps.cmpfTotal (F := Ideal) (φ := .f32) .gt) x h).2 (ix3 b n k)
      = BitVec.ofNat 32 (rank (fun i => x (ix3 b n i)) (k.castLE hK)).val := by
  rw [topK_position (by decide : 2 < 3) _ x h _ (ix3 b n (k.castLE hK)) (same_coordinates hK h b n k)]
  exact congrArg (fun f : Fin C → EReal => BitVec.ofNat 32 (rank f (k.castLE hK)).val)
    (funext fun i => congrArg x (along_last b n (k.castLE hK) i (by decide : 2 < 3)))

end

end Cert.TopK

end
-- ==== Proof.Reference.lean ====
/- The reference's result read at an index: the answer at the three nearest known points its selection reports. -/
module

public import proofs.«01_k».proof.Proof.Gen.ReferenceIdeal.Run
public import proofs.«01_k».proof.Proof.TopK
public import Idealize.ShloMosaic.Lib.Pointwise
public import Idealize.ShloMosaic.Lib.Tactic.CleanTypes

@[expose] public section

set_option maxRecDepth 16384

noncomputable section

namespace Cert.Ref

open Idealize.ShloMosaic Idealize.ShloMosaic.TcCoe Cert.ReferenceIdeal Cert.ReferenceIdeal.Gen Cert.Select Cert.Answer

/-- The negated squared distances, as the reference computes them. -/
def negs (A0 : FVec Ideal S16x4096x3 .f32) (A1 : FVec Ideal S16x1024x3 .f32) : FVec Ideal S16x4096x1024 .f32 :=
  Host.negf (Host.reduceAdd (mulf
    (subf
      (broadcastInDim S16x4096x1024x3 ![0, 1, 2, 3] bcast_S16x4096x1x3_S16x4096x1024x3_0_1_2_3
        (broadcastInDim S16x4096x1x3 ![0, 1, 3] bcast_S16x4096x3_S16x4096x1x3_0_1_3 A0))
      (broadcastInDim S16x4096x1024x3 ![0, 1, 2, 3] bcast_S16x1x1024x3_S16x4096x1024x3_0_1_2_3
        (broadcastInDim S16x1x1024x3 ![0, 2, 3] bcast_S16x1024x3_S16x1x1024x3_0_2_3 A1)))
    (subf
      (broadcastInDim S16x4096x1024x3 ![0, 1, 2, 3] bcast_S16x4096x1x3_S16x4096x1024x3_0_1_2_3
        (broadcastInDim S16x4096x1x3 ![0, 1, 3] bcast_S16x4096x3_S16x4096x1x3_0_1_3 A0))
      (broadcastInDim S16x4096x1024x3 ![0, 1, 2, 3] bcast_S16x1x1024x3_S16x4096x1024x3_0_1_2_3
        (broadcastInDim S16x1x1024x3 ![0, 2, 3] bcast_S16x1024x3_S16x1x1024x3_0_2_3 A1))))
    (constant S_ .f32 0x00000000#32) reducesTo_S16x4096x1024x3_S16x4096x1024_d3 h_S_)

/-- A negated squared distance at an index. -/
theorem negs_apply (A0 : FVec Ideal S16x4096x3 .f32) (A1 : FVec Ideal S16x1024x3 .f32) (b : Fin 16) (n : Fin 4096)
    (i : Fin 1024) : negs A0 A1 (ix3 b n i) = -gap A0 A1 b n i := by
  unfold negs gap Answer.dist
  pointwise
  simp only [Fin.sum_univ_three]

/-- The start index that a result index of the gather reads. -/
theorem gather_start (b : Fin 16) (n : Fin 4096) (k : Fin 3) (x : Fin 512) (z : Fin 1) :
    gather_S16x1024x512_S16x4096x3x1_S16x4096x3x512_3_1_0_0_1_3_11512.siIdx (ix4 b n k x) z = ix4 b n k 0 := by
  funext d
  fin_cases d
  · rfl
  · rfl
  · rfl
  · exact Fin.ext (by have := z.isLt; change z.val = 0; omega)

/-- A gathered entry is the table's entry at the row the start index names. -/
theorem gather_apply (T : S16x1024x512.Idx → EReal) (J : IVec S16x4096x3x1 32) (b : Fin 16) (n : Fin 4096) (k : Fin 3)
    (x : Fin 512) (s : Fin 1024) (h : J (ix4 b n k 0) = BitVec.ofNat 32 s.val) :
    Host.gather gather_S16x1024x512_S16x4096x3x1_S16x4096x3x512_3_1_0_0_1_3_11512 T J (ix4 b n k x) = T (ix3 b s x) := by
  unfold Host.gather
  refine congrArg T (funext fun d => Fin.ext ?_)
  change gather_S16x1024x512_S16x4096x3x1_S16x4096x3x512_3_1_0_0_1_3_11512.start (ix4 b n k x) J d + gather_S16x1024x512_S16x4096x3x1_S16x4096x3x512_3_1_0_0_1_3_11512.batchCoord (ix4 b n k x) d + gather_S16x1024x512_S16x4096x3x1_S16x4096x3x512_3_1_0_0_1_3_11512.offCoord (ix4 b n k x) d = _
  fin_cases d
  · change 0 + b.val + 0 = b.val
    omega
  · have e : gather_S16x1024x512_S16x4096x3x1_S16x4096x3x512_3_1_0_0_1_3_11512.start (ix4 b n k x) J 1 = min (J (ix4 b n k 0)).toInt.toNat 1023 := by
      unfold GatherDims.start
      rw [dif_pos (by decide)]
      exact congrArg (fun i => min (J i).toInt.toNat 1023) (gather_start b n k x 0)
    change gather_S16x1024x512_S16x4096x3x1_S16x4096x3x512_3_1_0_0_1_3_11512.start (ix4 b n k x) J 1 + 0 + 0 = s.val
    rw [e, h]
    have := s.isLt
    have t : (BitVec.ofNat 32 s.val).toInt = s.val := by
      rw [BitVec.toInt_eq_toNat_of_lt (by simp only [BitVec.toNat_ofNat]; omega)]
      simp only [BitVec.toNat_ofNat]
      omega
    rw [t]
    omega
  · change 0 + 0 + x.val = x.val
    omega

/-- The position word the reference gathers at: wrapping a negative one changes nothing, since none is negative. -/
theorem wrapped (X : IVec S16x4096x3 32) (b : Fin 16) (n : Fin 4096) (k : Fin 3) (s : Fin 1024)
    (h : X (ix3 b n k) = BitVec.ofNat 32 s.val) :
    broadcastInDim S16x4096x3x1 ![0, 1, 2] bcast_S16x4096x3_S16x4096x3x1_0_1_2
      (select (cmpi .slt X (broadcastInDim S16x4096x3 ![] bcast_S_S16x4096x3 (constantI S_ 32 0#32)))
        (addi X (broadcastInDim S16x4096x3 ![] bcast_S_S16x4096x3 (constantI S_ 32 1024#32))) X) (ix4 b n k 0)
      = BitVec.ofNat 32 s.val := by
  pointwise
  rw [h]
  have hs := s.isLt
  have hn : (BitVec.ofNat 32 s.val).slt 0#32 = false := by
    rw [BitVec.slt_zero_eq_msb, BitVec.msb_eq_false_iff_two_mul_lt]
    simp only [BitVec.toNat_ofNat]
    omega
  unfold Scalar.select IntOp.cmpi
  simp [hn]

/-- A gathered feature is the known feature at the named position. -/
theorem gathered (A3 : FVec Ideal S16x512x1024 .f32) (X : IVec S16x4096x3 32) (b : Fin 16) (n : Fin 4096) (k : Fin 3)
    (x : Fin 512) (s : Fin 1024) (h : X (ix3 b n k) = BitVec.ofNat 32 s.val) :
    Host.gather gather_S16x1024x512_S16x4096x3x1_S16x4096x3x512_3_1_0_0_1_3_11512 (transpose S16x1024x512 [0, 2, 1] A3 transposes_S16x512x1024_S16x1024x512_0_2_1)
      (broadcastInDim S16x4096x3x1 ![0, 1, 2] bcast_S16x4096x3_S16x4096x3x1_0_1_2
      (select (cmpi .slt X (broadcastInDim S16x4096x3 ![] bcast_S_S16x4096x3 (constantI S_ 32 0#32)))
        (addi X (broadcastInDim S16x4096x3 ![] bcast_S_S16x4096x3 (constantI S_ 32 1024#32))) X)) (ix4 b n k x)
      = A3 (ix3 b x s) := by
  rw [gather_apply _ _ b n k x s (wrapped X b n k s h)]
  pointwise

variable (m : (ℓ : Loc nD τ sig) → Buf (Elt Ideal) ℓ) (c : Dev nD)

/-- The position of the `k`-th nearest known point, as the reference's selection reports it. -/
def near (A0 : FVec Ideal S16x4096x3 .f32) (A1 : FVec Ideal S16x1024x3 .f32) (k : Fin 1024) (b : Fin 16) (n : Fin 4096) :
    Fin 1024 :=
  TopK.rank (fun i => -gap A0 A1 b n i) k

/-- The reference's result at an index is the answer at the positions its selection reports. -/
theorem result (b : Fin 16) (o : Fin 256) (n : Fin 4096) :
    Value.res_main_v48 m c (ix3 b o n)
      = answer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (near (m ((c.tc : Thread nD τ).loc main_arg0)) (m ((c.tc : Thread nD τ).loc main_arg1)) 0 b n)
          (near (m ((c.tc : Thread nD τ).loc main_arg0)) (m ((c.tc : Thread nD τ).loc main_arg1)) 1 b n)
          (near (m ((c.tc : Thread nD τ).loc main_arg0)) (m ((c.tc : Thread nD τ).loc main_arg1)) 2 b n) b o n := by
  have hX := negs_apply (m ((c.tc : Thread nD τ).loc main_arg0)) (m ((c.tc : Thread nD τ).loc main_arg1))
  unfold Value.res_main_v48
  unfold negs at hX
  generalize Host.negf (F := Ideal) _ = X at hX ⊢
  have hv : ∀ k : Fin 3, (Host.topK S16x4096x3 2 (FloatOps.cmpfTotal (F := Ideal) (φ := .f32) .gt) X
      sliceFits_S16x4096x1024_S16x4096x3).1 (ix3 b n k)
        = -gap (m ((c.tc : Thread nD τ).loc main_arg0)) (m ((c.tc : Thread nD τ).loc main_arg1)) b n
            (near (m ((c.tc : Thread nD τ).loc main_arg0)) (m ((c.tc : Thread nD τ).loc main_arg1)) (k.castLE (by omega)) b n) := by
    intro k
    rw [TopK.topK_fst (by omega : 3 ≤ 1024) X _ b n k, hX]
    simp only [hX]
    rfl
  have hp : ∀ k : Fin 3, (Host.topK S16x4096x3 2 (FloatOps.cmpfTotal (F := Ideal) (φ := .f32) .gt) X
      sliceFits_S16x4096x1024_S16x4096x3).2 (ix3 b n k)
        = BitVec.ofNat 32 (near (m ((c.tc : Thread nD τ).loc main_arg0)) (m ((c.tc : Thread nD τ).loc main_arg1))
            (k.castLE (by omega)) b n).val := by
    intro k
    rw [TopK.topK_snd (by omega : 3 ≤ 1024) X _ b n k]
    simp only [hX]
    rfl
  clean_types
  pointwise
  have c0 : (Fin.castLE (by omega : 3 ≤ 1024) (0 : Fin 3) : Fin 1024) = 0 := rfl
  have c1 : (Fin.castLE (by omega : 3 ≤ 1024) (1 : Fin 3) : Fin 1024) = 1 := rfl
  have c2 : (Fin.castLE (by omega : 3 ≤ 1024) (2 : Fin 3) : Fin 1024) = 2 := rfl
  simp only [gathered _ _ b n _ _ _ (hp _), hv, Fin.sum_univ_three, c0, c1, c2, neg_neg, answer, stack, layer_flip, first_flip,
    mix, weight, recip, eps]

end Cert.Ref

end
-- ==== Proof.Near.lean ====
/- What the precondition gives: the reference's three positions are the three nearest known points, strictly. -/
module

public import proofs.«01_k».proof.Proof.Gen.Pre_four_nearest_differ
public import proofs.«01_k».proof.Proof.Reference

@[expose] public section

set_option maxRecDepth 16384

noncomputable section

namespace Cert.Near

open Idealize.ShloMosaic Cert.Pre_four_nearest_differ Cert.Pre_four_nearest_differ.Gen Cert.Select Cert.Answer

variable (A0 : FVec Ideal S16x4096x3 .f32) (A1 : FVec Ideal S16x1024x3 .f32) (A2 : FVec Ideal S16x256x4096 .f32)
  (A3 : FVec Ideal S16x512x1024 .f32) (A4 : FVec Ideal S512x768 .f32) (A5 : FVec Ideal S512 .f32)
  (A6 : FVec Ideal S512x512 .f32) (A7 : FVec Ideal S512 .f32) (A8 : FVec Ideal S256x512 .f32) (A9 : FVec Ideal S256 .f32)

/-- The precondition compares each of the first three selected entries with the next. -/
theorem fn_eq : fn (F := Ideal) A0 A1 A2 A3 A4 A5 A6 A7 A8 A9
    = cmpf .ogt
      (extractStridedSlice S16x4096x3 ![0, 0, 0] (Host.topK S16x4096x4 2 (FloatOps.cmpfTotal (F := Ideal) (φ := .f32) .gt)
        (Ref.negs A0 A1) sliceFits_S16x4096x1024_S16x4096x4).1 slices_S16x4096x4_S16x4096x3_0_0_0)
      (extractStridedSlice S16x4096x3 ![0, 0, 1] (Host.topK S16x4096x4 2 (FloatOps.cmpfTotal (F := Ideal) (φ := .f32) .gt)
        (Ref.negs A0 A1) sliceFits_S16x4096x1024_S16x4096x4).1 slices_S16x4096x4_S16x4096x3_0_0_1) := rfl

/-- Comparing the slices at one index compares two neighbouring entries. -/
theorem compare_at (V : FVec Ideal S16x4096x4 .f32) (b : Fin 16) (n : Fin 4096) (k : Fin 3)
    (h : cmpf .ogt (extractStridedSlice S16x4096x3 ![0, 0, 0] V slices_S16x4096x4_S16x4096x3_0_0_0)
      (extractStridedSlice S16x4096x3 ![0, 0, 1] V slices_S16x4096x4_S16x4096x3_0_0_1) (ix3 b n k) = 1#1) :
    V (ix3 b n ⟨k + 1, by omega⟩) < V (ix3 b n ⟨k, by omega⟩) := by
  have e0 : extractStridedSlice S16x4096x3 ![0, 0, 0] V slices_S16x4096x4_S16x4096x3_0_0_0 (ix3 b n k)
      = V (ix3 b n ⟨k, by omega⟩) := by pointwise
  have e1 : extractStridedSlice S16x4096x3 ![0, 0, 1] V slices_S16x4096x4_S16x4096x3_0_0_1 (ix3 b n k)
      = V (ix3 b n ⟨k + 1, by omega⟩) := by
    pointwise
    exact congrArg (fun i => V (ix3 b n i)) (Fin.ext (Nat.add_comm _ _))
  unfold cmpf at h
  rw [e0, e1] at h
  change BitVec.ofBool (decide (V (ix3 b n ⟨k + 1, by omega⟩) < V (ix3 b n ⟨k, by omega⟩))) = 1#1 at h
  by_contra hn
  rw [decide_eq_false hn] at h
  exact absurd h (by decide)

/-- Under the precondition the three reported positions are the three nearest known points of every point. -/
theorem nearest (h : fn (F := Ideal) A0 A1 A2 A3 A4 A5 A6 A7 A8 A9 = fun _ => 1#1) (b : Fin 16) (n : Fin 4096) :
    Nearest (gap A0 A1 b n) (Ref.near A0 A1 0 b n) (Ref.near A0 A1 1 b n) (Ref.near A0 A1 2 b n) := by
  refine TopK.nearest_of_rank (gap A0 A1 b n) fun k => ?_
  rw [fn_eq] at h
  have hk := compare_at _ b n k (congrFun h (ix3 b n k))
  rw [TopK.topK_fst (by omega : 4 ≤ 1024) (Ref.negs A0 A1) _ b n, TopK.topK_fst (by omega : 4 ≤ 1024) (Ref.negs A0 A1) _ b n] at hk
  simp only [Ref.negs_apply] at hk
  exact hk

end Cert.Near

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Pre_four_nearest_differ
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.Near
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Under the precondition the kernel and the reference end with the same result array, and with their arguments as they
    were. -/
theorem algebraic : algebraic_KernelIdeal_ReferenceIdeal_pre_four_nearest_differ (hKernelIdeal := Cert.KernelIdeal.Gen.facts)
    (hReferenceIdeal := Cert.ReferenceIdeal.Gen.facts) (hPre_four_nearest_differ := Cert.Pre_four_nearest_differ.Gen.facts) := by
  intro m g m' g' hpre hargs
  refine ⟨fun c => Array.whole m c
    (fun b n => Ref.near (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) 0 b n)
    (fun b n => Ref.near (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) 1 b n)
    (fun b n => Ref.near (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) 2 b n), ?_, ?_⟩
  · exact (θ_run _ _ _).mono (fun r h c => ⟨(h c).1.trans
      (Array.array_eq m c _ _ _ fun b n => Near.nearest _ _ _ _ _ _ _ _ _ _ (hpre c) b n), (h c).2⟩)
      (Cert.KernelIdeal.Value.run_blocks m g)
  · refine (θ_run _ _ _).mono (fun r h c => ⟨(h c).1.trans ?_, (h c).2⟩) (Cert.ReferenceIdeal.Value.run m' g')
    obtain ⟨a0, a1, a2, a3, a4, a5, a6, a7, a8, a9⟩ := hargs c
    funext i
    obtain ⟨b, o, n, rfl⟩ : ∃ b o n, i = ix3 b o n := ⟨i 0, i 1, i 2, eq_ix3 i⟩
    rw [Ref.result, a0, a1, a2, a3, a4, a5, a6, a7, a8, a9]
    rfl

/-- The reference runs and leaves its arguments as they were; it declares no semaphore. -/
theorem reference_runs : quiescent_ReferenceIdeal (hReferenceIdeal := Cert.ReferenceIdeal.Gen.facts) := fun m ρ _ =>
  (θ_run (Cert.ReferenceIdeal.defs (F := Ideal)) _ _).mono
    (fun r h => And.intro (fun c => (h c).2) (sem_eq_zero_of_no_sems (by decide) r.2)) (Cert.ReferenceIdeal.Value.run m ρ)

/-- The runs, the translation and the agreement. -/
theorem claim : Cert.Claim := ⟨Cert.Kernel.Gen.facts, Cert.KernelIdeal.Gen.facts, Cert.ReferenceIdeal.Gen.facts,
  Cert.Pre_four_nearest_differ.Gen.facts, fun m ρ _ => Cert.Kernel.Gen.frame m ρ, fun m ρ _ => Cert.KernelIdeal.Gen.frame m ρ,
  fun m ρ _ => Cert.KernelIdeal.Gen.frame m ρ, fun m ρ _ => reference_runs m ρ trivial,
  fun m ρ _ => reference_runs m ρ trivial, trivial, algebraic⟩

end Cert.Proof

end
